-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "floor_sq" .f32 0x179ABE15#32 ((5316911940649 / 5316911983139663491615228241121378304 : ℝ) : EReal)
  ∧ IdealRules.named_const.Statement Cert.KernelIdeal.κ "scale" .f32 0x4166D4CA#32 ((10 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S1024x128 : Shape := ⟨2, ![1024, 128]⟩
abbrev S1024 : Shape := ⟨1, ![1024]⟩
abbrev S16384x1024 : Shape := ⟨2, ![16384, 1024]⟩
abbrev S2048x128 : Shape := ⟨2, ![2048, 128]⟩
abbrev S2048x1024 : Shape := ⟨2, ![2048, 1024]⟩
abbrev S1024x1 : Shape := ⟨2, ![1024, 1]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S1024x128, .f32⟩
  | .hbm, ⟨2, _⟩ => ⟨S1024, .f32⟩
  | .hbm, ⟨3, _⟩ => ⟨S16384x1024, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S2048x1024, .f32⟩
  | .local _ .vmem, ⟨4, _⟩ => ⟨S2048x1024, .f32⟩
  | .local _ .vmem, ⟨5, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "floor_sq" => some ((5316911940649 / 5316911983139663491615228241121378304 : ℝ) : EReal)
  | "scale" => some ((10 * (Real.log 2)⁻¹ : ℝ) : EReal)
  | _ => none
-- ==== ReferenceIdeal.lean ====
abbrev S16384x128 : Shape := ⟨2, ![16384, 128]⟩
abbrev S1024x128 : Shape := ⟨2, ![1024, 128]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1 : Shape := ⟨2, ![1024, 1]⟩
abbrev S128x1024 : Shape := ⟨2, ![128, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1024x128, .f32⟩
  | .hbm, ⟨2, _⟩ => ⟨S1024, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S1024x128, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x128, .f32⟩
  | .hbm, ⟨22, _⟩ => ⟨S1024x128, .f32⟩
  | .hbm, ⟨23, _⟩ => ⟨S128x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Proof.Rows.lean ====
/-
  The mathematics of one row, over the extended reals, with no program in sight.

  A row `x` is brought to unit length in two ways: divided by `max (√(∑ xᵢ²)) ε`, as the reference does, or multiplied by
  `1 / √(max (∑ xᵢ²) ε²)`, as the kernel does. These are one function (`unit_eq`), and whatever the row holds, infinities
  included, what comes out is a row of real numbers (`unit_real`): a row with an infinite entry has an infinite norm, and
  every entry divided by it is 0. So the cosines are real, and so are their exponentials; from there on the softmax is
  ordinary real algebra: subtracting the row's maximum changes nothing, and `2 ^ (10 / ln 2 · d) = e ^ (10 d)`
  (`softmax_eq`).
-/
module

public import Idealize.ShloMosaic.PureOps.Ideal
public import Idealize.ShloMosaic.PureOps.Ideal.Laws

@[expose] public section

noncomputable section

namespace Cluster

open Idealize.ShloMosaic

/-- The reference's floor of a norm: the rational that the f32 word of `1e-12` is. -/
def floor : ℝ := 2305843 / 2305843009213693952

theorem floor_pos : 0 < floor := by unfold floor; norm_num

/-- The sum of the squares of a row. -/
def sq {n : ℕ} (x : Fin n → EReal) : EReal := ∑ k, x k * x k

/-- A row's entry over the row's clipped norm, as the kernel computes it. -/
def unit {n : ℕ} (x : Fin n → EReal) (k : Fin n) : EReal :=
  x k * Ideal.rsqrt (max (sq x) ((floor ^ 2 : ℝ) : EReal))

/-- A square is nonnegative, also at the infinities. -/
theorem mul_self_nonneg (a : EReal) : 0 ≤ a * a := by
  induction a with
  | bot => simp
  | top => simp
  | coe r => rw [← EReal.coe_mul]; exact_mod_cast _root_.mul_self_nonneg r

theorem sq_nonneg {n : ℕ} (x : Fin n → EReal) : 0 ≤ sq x :=
  Finset.sum_nonneg fun k _ => mul_self_nonneg (x k)

/-- A row whose sum of squares is a real number has only real entries. -/
theorem entry_real {n : ℕ} (x : Fin n → EReal) (h : sq x ≠ ⊤) (k : Fin n) : ∃ r : ℝ, x k = r := by
  have hk : x k * x k ≤ sq x := Finset.single_le_sum (f := fun k => x k * x k)
    (fun i _ => mul_self_nonneg (x i)) (Finset.mem_univ k)
  generalize x k = a at hk
  induction a with
  | bot => simp at hk; exact absurd hk h
  | top => simp at hk; exact absurd hk h
  | coe r => exact ⟨r, rfl⟩

/-- The greater of two reals is the same taken over the extended reals. -/
theorem coe_max (a b : ℝ) : ((max a b : ℝ) : EReal) = max (a : EReal) b :=
  EReal.coe_strictMono.monotone.map_max

/-- The reciprocal root of a clipped nonnegative real. -/
theorem rsqrt_clip (r : ℝ) : Ideal.rsqrt (max (r : EReal) ((floor ^ 2 : ℝ) : EReal))
    = (((Real.sqrt (max r (floor ^ 2)))⁻¹ : ℝ) : EReal) := by
  have hp : 0 < max r (floor ^ 2) := lt_max_of_lt_right (pow_pos floor_pos 2)
  rw [← coe_max, Ideal.rsqrt_coe, if_neg hp.not_gt, if_neg hp.ne']

/-- Dividing by the clipped norm is multiplying by the reciprocal root of the clipped square. -/
theorem unit_eq {n : ℕ} (x : Fin n → EReal) (k : Fin n) :
    Ideal.div (x k) (max (Ideal.sqrt (sq x)) (floor : EReal)) = unit x k := by
  unfold unit
  have h0 := sq_nonneg x
  generalize x k = a
  generalize sq x = s at h0
  induction s with
  | bot => simp at h0
  | top => simp [Ideal.div]
  | coe r =>
    have hr : 0 ≤ r := by exact_mod_cast h0
    have hm : max (Real.sqrt r) floor = Real.sqrt (max r (floor ^ 2)) := by
      rw [Real.sqrt_monotone.map_max, Real.sqrt_sq floor_pos.le]
    have hp : 0 < max r (floor ^ 2) := lt_max_of_lt_right (pow_pos floor_pos 2)
    rw [rsqrt_clip, Ideal.sqrt_coe, if_neg hr.not_gt, ← coe_max, hm,
      Ideal.div_coe (Real.sqrt_pos.mpr hp).ne', one_div]

/-- The entries of a row brought to unit length are real numbers, whatever the row holds. -/
theorem unit_real {n : ℕ} (x : Fin n → EReal) : ∃ u : Fin n → ℝ, ∀ k, unit x k = u k := by
  suffices h : ∀ k, ∃ r : ℝ, unit x k = r from ⟨fun k => (h k).choose, fun k => (h k).choose_spec⟩
  intro k
  unfold unit
  by_cases h : sq x = ⊤
  · exact ⟨0, by rw [h]; simp⟩
  · obtain ⟨a, ha⟩ := entry_real x h k
    obtain ⟨s, hs⟩ : ∃ s : ℝ, sq x = s := by
      have h0 := sq_nonneg x
      generalize sq x = s at h h0
      induction s with
      | bot => simp at h0
      | top => exact absurd rfl h
      | coe r => exact ⟨r, rfl⟩
    exact ⟨a * (Real.sqrt (max s (floor ^ 2)))⁻¹, by rw [hs, rsqrt_clip, ha, EReal.coe_mul]⟩

/-- A finite sum of real numbers, taken over the extended reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The greatest of a nonempty finite family of real numbers, folded up from `-∞`, is a real number. -/
theorem fold_max_real {n : ℕ} (f : Fin (n + 1) → ℝ) :
    ∃ M : ℝ, Finset.univ.fold max (⊥ : EReal) (fun k => (f k : EReal)) = M := by
  obtain ⟨M, hM⟩ : ∃ M : EReal, Finset.univ.fold max (⊥ : EReal) (fun k => (f k : EReal)) = M := ⟨_, rfl⟩
  rw [hM]
  induction M with
  | bot =>
    have h := (Finset.le_fold_max (s := Finset.univ) (b := (⊥ : EReal)) (f := fun k => (f k : EReal)) (f 0 : EReal)).mpr
      (Or.inr ⟨0, Finset.mem_univ _, le_rfl⟩)
    rw [hM] at h
    exact absurd (le_bot_iff.mp h) (EReal.coe_ne_bot _)
  | top =>
    have h := (Finset.fold_max_lt (s := Finset.univ) (b := (⊥ : EReal)) (f := fun k => (f k : EReal)) (⊤ : EReal)).mpr
      ⟨bot_lt_top, fun k _ => EReal.coe_lt_top _⟩
    rw [hM] at h
    exact absurd h (lt_irrefl _)
  | coe r => exact ⟨r, rfl⟩

/-- `2 ^ (10 / ln 2 · d) = e ^ (10 d)`: the exponential in base two, its argument scaled by the named constant. -/
theorem exp2_scaled (d : ℝ) : Ideal.exp2 ((10 * (Real.log 2)⁻¹ * d : ℝ) : EReal) = ((Real.exp (d * 10) : ℝ) : EReal) := by
  have h2 : Real.log 2 ≠ 0 := (Real.log_pos (by norm_num)).ne'
  rw [Ideal.exp2_coe]
  congr 1
  show (2 : ℝ) ^ (10 * (Real.log 2)⁻¹ * d) = _
  rw [Real.rpow_def_of_pos (by norm_num)]
  congr 1
  field_simp

/-- The kernel's exponential of a row and a column: `2 ^ ∑ (uₖ · scale) wₖ`, the row of unit length and scaled, against a
    column of unit length. -/
def kexp {n : ℕ} (x : Fin n → EReal) (y : Fin n → EReal) : EReal :=
  Ideal.exp2 (∑ k, x k * (((10 * (Real.log 2)⁻¹ : ℝ) : EReal) * Ideal.rsqrt (max (sq x) ((floor ^ 2 : ℝ) : EReal))) * unit y k)

/-- The cosine of a row and a column. -/
def cosine {n : ℕ} (x : Fin n → EReal) (y : Fin n → EReal) : EReal := ∑ k, unit x k * unit y k

/-- A cosine is a real number, and the kernel's exponential is that of ten times it. -/
theorem kexp_eq {n : ℕ} (x y : Fin n → EReal) :
    ∃ d : ℝ, cosine x y = d ∧ kexp x y = ((Real.exp (d * 10) : ℝ) : EReal) := by
  obtain ⟨u, hu⟩ := unit_real x
  obtain ⟨w, hw⟩ := unit_real y
  refine ⟨∑ k, u k * w k, ?_, ?_⟩
  · unfold cosine
    simp only [hu, hw, ← EReal.coe_mul, coe_sum]
  · rw [← exp2_scaled, kexp, Finset.mul_sum, ← coe_sum]
    congr 1
    refine Finset.sum_congr rfl fun k _ => ?_
    rw [mul_left_comm, show x k * Ideal.rsqrt (max (sq x) ((floor ^ 2 : ℝ) : EReal)) = u k from hu k, hw,
      ← EReal.coe_mul, ← EReal.coe_mul, mul_assoc]

/-- THE SOFTMAX OF A ROW. With `c j` the row's cosines, the kernel's quotient of exponentials, without the row's maximum
    and times the reciprocal of their sum, is the reference's softmax of ten times the cosines, which subtracts the maximum
    first and divides by the sum. -/
theorem softmax_eq {n N : ℕ} (x : Fin n → EReal) (y : Fin (N + 1) → Fin n → EReal) (j : Fin (N + 1)) :
    kexp x (y j) * Ideal.div 1 (∑ l, kexp x (y l))
    = Ideal.div
        (Ideal.exp (cosine x (y j) * ((10 : ℝ) : EReal)
          - max ⊥ (Finset.univ.fold max ⊥ fun l => cosine x (y l) * ((10 : ℝ) : EReal))))
        (∑ l, Ideal.exp (cosine x (y l) * ((10 : ℝ) : EReal)
          - max ⊥ (Finset.univ.fold max ⊥ fun l => cosine x (y l) * ((10 : ℝ) : EReal)))) := by
  choose d hd he using fun l => kexp_eq x (y l)
  simp only [hd, he, ← EReal.coe_mul]
  obtain ⟨M, hM⟩ := fold_max_real fun l => d l * 10
  rw [hM, max_eq_right bot_le]
  simp only [← EReal.coe_sub, Ideal.exp_coe, coe_sum]
  have hs : 0 < ∑ l, Real.exp (d l * 10) := Finset.sum_pos (fun l _ => Real.exp_pos _) Finset.univ_nonempty
  have ht : ∑ l, Real.exp (d l * 10 - M) = (∑ l, Real.exp (d l * 10)) / Real.exp M := by
    rw [Finset.sum_div]
    exact Finset.sum_congr rfl fun l _ => Real.exp_sub _ _
  have ht0 : ∑ l, Real.exp (d l * 10 - M) ≠ 0 := by
    rw [ht]; exact (div_pos hs (Real.exp_pos M)).ne'
  rw [Ideal.div_coe hs.ne', Ideal.div_coe ht0, one_mul, ← EReal.coe_mul, ← EReal.coe_mul, ht, Real.exp_sub]
  congr 1
  have hM0 := (Real.exp_pos M).ne'
  have hs0 := hs.ne'
  field_simp

end Cluster

end
-- ==== Proof.Consts.lean ====
/-
  A matrix's rows, and the constants the two programs spell, as the extended reals they denote. The kernel's two are named: `scale`, which is
  `10 / ln 2`, and `floor_sq`, the square of the number the f32 word of `1e-12` is. The reference's `1e-12`, `10` and `-∞`
  are the values of their words.
-/
module

public import proofs.«01_k».proof.Defs
public import proofs.«01_k».proof.Proof.Rows
public import Idealize.ShloMosaic.PureOps.Ideal
public import Idealize.ShloMosaic.PureOps.IdealRules
public import Idealize.ShloMosaic.Lib.Pointwise

@[expose] public section

noncomputable section

namespace Cluster

open Idealize.ShloMosaic

/-- Row `r` of a matrix. -/
def row {R C : ℕ} (x : FVec Ideal ⟨2, ![R, C]⟩ .f32) (r : Fin R) : Fin C → EReal := fun k => x (ix2 r k)

/-- The reference's floor `1e-12` denotes `floor`. -/
theorem word_floor : Ideal.ofBits .f32 0x2B8CBCCC#32 = ((floor : ℝ) : EReal) := by
  simp [Ideal.ofBits, Ideal.ieee, floor, -EReal.coe_mul]; norm_num

/-- The reference's reciprocal temperature denotes `10`. -/
theorem word_ten : Ideal.ofBits .f32 0x41200000#32 = ((10 : ℝ) : EReal) := by
  simp [Ideal.ofBits, Ideal.ieee, -EReal.coe_mul]; norm_num

/-- The value the reference's maximum starts from denotes `-∞`. -/
theorem word_bot : Ideal.ofBits .f32 0xFF800000#32 = (⊥ : EReal) := by
  simp [Ideal.ofBits, Ideal.ieee]

/-- The kernel's floor of a sum of squares denotes the square of the reference's floor. -/
theorem named_floor : Named.named (F := Ideal) Cert.KernelIdeal.κ "floor_sq" (φ := .f32) 0x179ABE15#32
    = ((floor ^ 2 : ℝ) : EReal) := by
  rw [show floor ^ 2 = 5316911940649 / 5316911983139663491615228241121378304 by unfold floor; norm_num]
  exact IdealRules.named_const.ideal_named_scalar _ _ _ _ rfl

/-- The kernel's scale denotes `10 / ln 2`. -/
theorem named_scale : Named.named (F := Ideal) Cert.KernelIdeal.κ "scale" (φ := .f32) 0x4166D4CA#32
    = ((10 * (Real.log 2)⁻¹ : ℝ) : EReal) :=
  IdealRules.named_const.ideal_named_scalar _ _ _ _ rfl

end Cluster

end
-- ==== Proof.Block.lean ====
/-
  What one step of the kernel computes, element by element: `k0_pay1`, the centroids brought to unit length (kept in the
  scratch array), and `k0_pay2`, a block of 2048 rows of the result.
-/
module

public import proofs.«01_k».proof.Proof.Consts
public import proofs.«01_k».proof.Proof.Gen.KernelIdeal.Skeleton
public import Idealize.ShloMosaic.Lib.Pointwise
public import Idealize.ShloMosaic.Lib.IdealHost

@[expose] public section

set_option maxRecDepth 16384

noncomputable section

namespace Cluster

open Idealize.ShloMosaic Cert.KernelIdeal Cert.KernelIdeal.Gen

/-- The kept centroids are the centroids' rows brought to unit length. -/
theorem centroids_at (y : FVec Ideal S1024x128 .f32) (j : Fin 1024) (k : Fin 128) :
    k0_pay1 (F := Ideal) y (ix2 j k) = unit (row y j) k := by
  pointwise [k0_pay1]
  rw [named_floor]
  rfl

/-- An element of a result block: the exponential of its row and centroid, times the reciprocal of the row's sum. -/
theorem block_at (x : FVec Ideal S2048x128 .f32) (y : FVec Ideal S1024x128 .f32) (r : Fin 2048) (j : Fin 1024) :
    k0_pay2 (F := Ideal) x (k0_pay1 (F := Ideal) y) (ix2 r j)
    = kexp (row x r) (row y j) * Ideal.div 1 (∑ l : Fin 1024, kexp (row x r) (row y l)) := by
  pointwise [k0_pay2]
  simp only [centroids_at, named_floor, named_scale]
  rfl

end Cluster

end
-- ==== Proof.Carry.lean ====
/-
  What the kernel's scratch array and output block hold after each step: the scratch the centroids of unit length, written at
  step 0 and only read afterwards, and the output block the step's 2048 rows.
-/
module

public import proofs.«01_k».proof.Proof.Gen.KernelIdeal.Value
public import Idealize.ShloMosaic.Lib.Pipeline.Value
public import Idealize.ShloMosaic.Lib.Tactic

@[expose] public section

noncomputable section

namespace Cluster

open Idealize.ShloMosaic Idealize.ShloMosaic.TcCoe Idealize.SL.Sem Cert.KernelIdeal Cert.KernelIdeal.Gen

theorem origin : (![0, 0] : Fin 2 → Nat) = fun _ => 0 := funext fun a => by fin_cases a <;> rfl

/-- A later step's output block: the block of its rows with the centroids the scratch holds. -/
theorem out_later (c : Dev nD) (i : grid0.Coords) (a1 : Memref sig .tc .vmem S2048x128 .f32) (h1 : a1.IsWhole)
    (a2 : Memref sig .tc .vmem S1024x128 .f32) (h2 : a2.IsWhole) (a3 : Memref sig .tc .vmem S2048x1024 .f32) (h3 : a3.IsWhole)
    (a4 : Memref sig .tc .vmem S1024x128 .f32) (h4 : a4.IsWhole) (hc : ¬cond0_0 i)
    (x : Vec Ideal S2048x128 .f32) (y w : Vec Ideal S1024x128 .f32) :
    out0_B_2 c i a1 h1 a2 h2 a3 h3 a4 h4 hc x y w = k0_pay2 (F := Ideal) x w := by
  unfold out0_B_2
  rw [View.read_writes_eq_canon _ _ _ (cover0_B_2 c i a1 h1 a2 h2 a3 h3 a4 h4 hc x y w)]
  unfold kernelRun0_B
  dsimp only
  rw [View.canon_unit_zero origin]
  simp only [View.readAt_eq_ld, h1.read_unread, h4.read_unread, View.ld_unit_zero (S := S2048x128) origin,
    View.ld_unit_zero (S := S1024x128) origin]

/-- Step 0's output block: the block of its rows with the centroids it has just brought to unit length. -/
theorem out_first (c : Dev nD) (i : grid0.Coords) (a1 : Memref sig .tc .vmem S2048x128 .f32) (h1 : a1.IsWhole)
    (a2 : Memref sig .tc .vmem S1024x128 .f32) (h2 : a2.IsWhole) (a3 : Memref sig .tc .vmem S2048x1024 .f32) (h3 : a3.IsWhole)
    (a4 : Memref sig .tc .vmem S1024x128 .f32) (h4 : a4.IsWhole) (hc : cond0_0 i)
    (x : Vec Ideal S2048x128 .f32) (y : Vec Ideal S1024x128 .f32) :
    out0_A_2 c i a1 h1 a2 h2 a3 h3 a4 h4 hc x y = k0_pay2 (F := Ideal) x (k0_pay1 (F := Ideal) y) := by
  unfold out0_A_2
  rw [View.read_writes_eq_canon _ _ _ (cover0_A_2 c i a1 h1 a2 h2 a3 h3 a4 h4 hc x y)]
  unfold kernelRun0_A
  dsimp only
  sl_unfold_words
  rw [View.canon_unit_zero origin, View.readCov_unit_zero (S := S1024x128) _ origin]
  simp only [View.readAt_eq_ld, h1.read_unread, h2.read_unread, View.ld_unit_zero (S := S2048x128) origin,
    View.ld_unit_zero (S := S1024x128) origin]

/-- Step 0 leaves in the scratch the centroids brought to unit length. -/
theorem scratch_first (c : Dev nD) (i : grid0.Coords) (a1 : Memref sig .tc .vmem S2048x128 .f32) (h1 : a1.IsWhole)
    (a2 : Memref sig .tc .vmem S1024x128 .f32) (h2 : a2.IsWhole) (a3 : Memref sig .tc .vmem S2048x1024 .f32) (h3 : a3.IsWhole)
    (a4 : Memref sig .tc .vmem S1024x128 .f32) (h4 : a4.IsWhole) (hc : cond0_0 i)
    (x : Vec Ideal S2048x128 .f32) (y : Vec Ideal S1024x128 .f32) :
    sout0_A_0 c i a1 h1 a2 h2 a3 h3 a4 h4 hc x y = k0_pay1 (F := Ideal) y := by
  unfold sout0_A_0
  rw [View.read_writes_eq_canon _ _ _ (scover0_A_0 c i a1 h1 a2 h2 a3 h3 a4 h4 hc x y)]
  unfold kernelRun0_A
  dsimp only
  sl_unfold_words
  rw [View.canon_unit_zero origin]
  simp only [View.readAt_eq_ld, h2.read_unread, View.ld_unit_zero (S := S1024x128) origin]

variable (m : (ℓ : Loc nD τ sig) → Buf (Elt Ideal) ℓ)

/-- The windows' block numbers: step `t` reads rows `2048 t …` of the embeddings and all the centroids. -/
theorem window_index : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The centroids' window shows the whole array at every step. -/
theorem centroid_window (c : Dev nD) (t : Fin cfg0.N) :
    (iblk m c 1 t : Vec Ideal S1024x128 .f32) = m ((c.tc : Thread nD τ).loc main_arg1) := by
  obtain ⟨-, -, e0, e1⟩ := window_index t
  funext j
  unfold iblk
  rw [View.read_apply]
  show V m c main_arg1 _ = m (c.tc.loc main_arg1) _
  unfold V
  congr 1
  funext a
  apply Fin.ext
  match a with
  | ⟨0, _⟩ => show win0_1.index t 0 * 1024 + 1 * (j 0).val = (j 0).val; rw [e0]; omega
  | ⟨1, _⟩ => show win0_1.index t 1 * 128 + 1 * (j 1).val = (j 1).val; rw [e1]; omega

/-- The embeddings' window at step `t` shows row `2048 t + r` as its row `r`. -/
theorem row_window (c : Dev nD) (t : Fin cfg0.N) (j : S2048x128.Idx) (i : S16384x128.Idx)
    (h0 : (i 0).val = 2048 * t.val + (j 0).val) (h1 : (i 1).val = (j 1).val) :
    (iblk m c 0 t : Vec Ideal S2048x128 .f32) j = m ((c.tc : Thread nD τ).loc main_arg0) i := by
  obtain ⟨e0, e1, -, -⟩ := window_index t
  unfold iblk
  rw [View.read_apply]
  show V m c main_arg0 _ = m (c.tc.loc main_arg0) _
  unfold V
  congr 1
  funext a
  apply Fin.ext
  match a with
  | ⟨0, _⟩ => show win0_0.index t 0 * 2048 + 1 * (j 0).val = (i 0).val; rw [e0, h0]; omega
  | ⟨1, _⟩ => show win0_0.index t 1 * 128 + 1 * (j 1).val = (i 1).val; rw [e1, h1]; omega

/-- WHAT EVERY STEP LEAVES: the output block is the block of the step's rows, and the scratch the centroids of unit length. -/
theorem after_step (c : Dev nD) : ∀ (n : ℕ) (h : n < cfg0.N), outsAt0 m c n h
    = (k0_pay2 (F := Ideal) (iblk m c 0 ⟨n, h⟩) (k0_pay1 (F := Ideal) (m ((c.tc : Thread nD τ).loc main_arg1))),
       k0_pay1 (F := Ideal) (m ((c.tc : Thread nD τ).loc main_arg1)))
  | 0, h => by
    rw [outsAt0_A m c ⟨0, h⟩ rfl, out_first, scratch_first, centroid_window]
  | n + 1, h => by
    have hN : cfg0.N = 8 := N_0
    have hB : ¬(⟨n + 1, h⟩ : Fin cfg0.N).val % 8 = 0 := by dsimp only; omega
    rw [outsAt0_B m c ⟨n + 1, h⟩ hB, out_later]
    show (k0_pay2 _ (outsAt0 m c n _).2, (outsAt0 m c n _).2) = _
    rw [after_step c n]

end Cluster

end
-- ==== Proof.RefValue.lean ====
/-
  What the reference computes, element by element: the softmax of ten times the cosines.
-/
module

public import proofs.«01_k».proof.Proof.Consts
public import proofs.«01_k».proof.Proof.Gen.ReferenceIdeal.Run
public import Idealize.ShloMosaic.Lib.Pointwise
public import Idealize.ShloMosaic.Lib.Tactic.CleanTypes
public import Idealize.ShloMosaic.Lib.IdealHost

@[expose] public section

set_option maxRecDepth 16384

noncomputable section

namespace Cluster

open Idealize.ShloMosaic Cert.ReferenceIdeal Cert.ReferenceIdeal.Gen Cert.ReferenceIdeal.Value

/-- The reference's rows of unit length: the embeddings, each over the greater of its norm and the floor. -/
def refRows (x : FVec Ideal S16384x128 .f32) : FVec Ideal S16384x128 .f32 :=
  Host.divf x (broadcastInDim S16384x128 ![0, 1] bcast_S16384x1_S16384x128_0_1 (maximumf
    (Host.sqrt (broadcastInDim S16384x1 ![0] bcast_S16384_S16384x1_0
      (Host.reduceAdd (mulf x x) (constant S_ .f32 0x00000000#32) reducesTo_S16384x128_S16384_d1 h_S_)))
    (broadcastInDim S16384x1 ![] bcast_S_S16384x1 (constant S_ .f32 0x2B8CBCCC#32))))

/-- The reference's centroids of unit length. -/
def refCentroids (y : FVec Ideal S1024x128 .f32) : FVec Ideal S1024x128 .f32 :=
  Host.divf y (broadcastInDim S1024x128 ![0, 1] bcast_S1024x1_S1024x128_0_1 (maximumf
    (Host.sqrt (broadcastInDim S1024x1 ![0] bcast_S1024_S1024x1_0
      (Host.reduceAdd (mulf y y) (constant S_ .f32 0x00000000#32) reducesTo_S1024x128_S1024_d1 h_S_)))
    (broadcastInDim S1024x1 ![] bcast_S_S1024x1 (constant S_ .f32 0x2B8CBCCC#32))))

/-- The reference's logits: ten times the cosines. -/
def refLogits (u : FVec Ideal S16384x128 .f32) (w : FVec Ideal S1024x128 .f32) : FVec Ideal S16384x1024 .f32 :=
  mulf (Host.dotGeneral dot_S16384x128_S128x1024_S16384x1024_1_0_0_1_n_n none u
      (transpose S128x1024 [1, 0] w transposes_S1024x128_S128x1024_1_0))
    (broadcastInDim S16384x1024 ![] bcast_S_S16384x1024 (constant S_ .f32 0x41200000#32))

/-- The exponentials of a matrix's elements, each row's greatest subtracted first. -/
def refExp (a : FVec Ideal S16384x1024 .f32) : FVec Ideal S16384x1024 .f32 :=
  Host.exp (subf a (broadcastInDim S16384x1024 ![0, 1] bcast_S16384x1_S16384x1024_0_1
    (broadcastInDim S16384x1 ![0] bcast_S16384_S16384x1_0
      (maximumf (broadcastInDim S16384 ![] bcast_S_S16384 (constant S_ .f32 0xFF800000#32))
        (Host.reduce FloatOps.maximumf a (constant S_ .f32 0xFF800000#32) reducesTo_S16384x1024_S16384_d1 h_S_)))))

/-- A matrix's elements, each over the sum of its row. -/
def refShare (e : FVec Ideal S16384x1024 .f32) : FVec Ideal S16384x1024 .f32 :=
  Host.divf e (broadcastInDim S16384x1024 ![0, 1] bcast_S16384x1_S16384x1024_0_1
    (broadcastInDim S16384x1 ![0] bcast_S16384_S16384x1_0
      (Host.reduceAdd e (constant S_ .f32 0x00000000#32) reducesTo_S16384x1024_S16384_d1 h_S_)))

/-- An element of the reference's rows of unit length is that of the row, so brought to unit length. -/
theorem refRows_at (x : FVec Ideal S16384x128 .f32) (r : Fin 16384) (k : Fin 128) :
    refRows x (ix2 r k) = unit (row x r) k := by
  pointwise [refRows]
  rw [word_floor]
  exact unit_eq (row x r) k

/-- The same of the centroids. -/
theorem refCentroids_at (y : FVec Ideal S1024x128 .f32) (j : Fin 1024) (k : Fin 128) :
    refCentroids y (ix2 j k) = unit (row y j) k := by
  pointwise [refCentroids]
  rw [word_floor]
  exact unit_eq (row y j) k

/-- A logit is ten times the cosine of its row and centroid. -/
theorem refLogits_at (x : FVec Ideal S16384x128 .f32) (y : FVec Ideal S1024x128 .f32) (r : Fin 16384) (j : Fin 1024) :
    refLogits (refRows x) (refCentroids y) (ix2 r j) = cosine (row x r) (row y j) * ((10 : ℝ) : EReal) := by
  pointwise [refLogits]
  simp only [refRows_at, refCentroids_at, word_ten]
  rfl

/-- The reference's row maximum, at any size: the greatest of the row, folded up from the value the reduction starts from. -/
theorem rowMax_at {R C : ℕ} (a : FVec Ideal ⟨2, ![R, C]⟩ .f32) (w : BitVec 32)
    (h : (⟨2, ![R, C]⟩ : Shape).ReducesTo [1] ⟨1, ![R]⟩) (hu : 0 < (⟨0, ![]⟩ : Shape).numel) (r : Fin R) :
    Host.reduce FloatOps.maximumf a (constant (F := Ideal) ⟨0, ![]⟩ .f32 w) h hu (ix1 r)
    = Finset.univ.fold max (Ideal.ofBits .f32 w) fun l : Fin C => a (ix2 r l) := by
  pointwise

/-- The exponential of a matrix less a number for each row. -/
theorem expLess_at (a : FVec Ideal S16384x1024 .f32) (M : FVec Ideal S16384 .f32) (r : Fin 16384) (j : Fin 1024) :
    Host.exp (subf a (broadcastInDim S16384x1024 ![0, 1] bcast_S16384x1_S16384x1024_0_1
      (broadcastInDim S16384x1 ![0] bcast_S16384_S16384x1_0 M))) (ix2 r j) = Ideal.exp (a (ix2 r j) - M (ix1 r)) := by
  pointwise

/-- The reference clips each row's maximum at `-∞` from below. -/
theorem clip_at (M : FVec Ideal S16384 .f32) (r : Fin 16384) :
    maximumf (broadcastInDim S16384 ![] bcast_S_S16384 (constant S_ .f32 0xFF800000#32)) M (ix1 r)
    = max (Ideal.ofBits .f32 0xFF800000#32) (M (ix1 r)) := by
  pointwise

/-- The exponential of an element, its row's greatest subtracted first. -/
theorem refExp_at (a : FVec Ideal S16384x1024 .f32) (r : Fin 16384) (j : Fin 1024) :
    refExp a (ix2 r j)
    = Ideal.exp (a (ix2 r j) - max ⊥ (Finset.univ.fold max ⊥ fun l : Fin 1024 => a (ix2 r l))) := by
  refine (expLess_at a _ r j).trans ?_
  rw [clip_at, rowMax_at a 0xFF800000#32 reducesTo_S16384x1024_S16384_d1 h_S_ r, word_bot]

/-- An element over the sum of its row. -/
theorem refShare_at (e : FVec Ideal S16384x1024 .f32) (r : Fin 16384) (j : Fin 1024) :
    refShare e (ix2 r j) = Ideal.div (e (ix2 r j)) (∑ l : Fin 1024, e (ix2 r l)) := by
  pointwise [refShare]

/-- The result of the reference is these five, one after the other. -/
theorem ref_term (m : (ℓ : Loc nD τ sig) → Buf (Elt Ideal) ℓ) (c : Dev nD) :
    res_main_v24 (F := Ideal) m c = refShare (refExp (refLogits
      (refRows (m ((c.tc : Thread nD τ).loc main_arg0))) (refCentroids (m ((c.tc : Thread nD τ).loc main_arg1))))) := rfl

/-- An element of the reference's result is the softmax of ten times the cosines of its row with every centroid. -/
theorem ref_at (x : FVec Ideal S16384x128 .f32) (y : FVec Ideal S1024x128 .f32) (r : Fin 16384) (j : Fin 1024) :
    refShare (refExp (refLogits (refRows x) (refCentroids y))) (ix2 r j)
    = Ideal.div
        (Ideal.exp (cosine (row x r) (row y j) * ((10 : ℝ) : EReal)
          - max ⊥ (Finset.univ.fold max ⊥ fun l => cosine (row x r) (row y l) * ((10 : ℝ) : EReal))))
        (∑ l, Ideal.exp (cosine (row x r) (row y l) * ((10 : ℝ) : EReal)
          - max ⊥ (Finset.univ.fold max ⊥ fun l => cosine (row x r) (row y l) * ((10 : ℝ) : EReal)))) := by
  simp only [refShare_at, refExp_at, refLogits_at]

end Cluster

end
-- ==== Proof.Equation.lean ====
/-
  The equation: the array the kernel leaves is the array the reference computes, for any embeddings and centroids.
-/
module

public import proofs.«01_k».proof.Proof.Block
public import proofs.«01_k».proof.Proof.Carry
public import proofs.«01_k».proof.Proof.RefValue

@[expose] public section

noncomputable section

namespace Cluster

open Idealize.ShloMosaic Idealize.ShloMosaic.TcCoe Cert.KernelIdeal Cert.KernelIdeal.Gen

variable (m : (ℓ : Loc nD τ sig) → Buf (Elt Ideal) ℓ)

/-- The embeddings and the centroids, as a device holds them. -/
abbrev embeddings (c : Dev nD) : FVec Ideal S16384x128 .f32 := m ((c.tc : Thread nD τ).loc main_arg0)
abbrev centroids (c : Dev nD) : FVec Ideal S1024x128 .f32 := m ((c.tc : Thread nD τ).loc main_arg1)

/-- Row `r` of the block step `t` reads is row `2048 t + r` of the embeddings. -/
theorem block_row (c : Dev nD) (t : Fin cfg0.N) (r : Fin 2048) (R : Fin 16384) (h : R.val = 2048 * t.val + r.val) :
    row (iblk m c 0 t : Vec Ideal S2048x128 .f32) r = row (embeddings m c) R :=
  funext fun k => row_window m c t (ix2 r k) (ix2 R k) h rfl

/-- WHAT THE KERNEL'S ARRAY HOLDS: at row `R` and centroid `j`, the exponential of the two times the reciprocal of the sum
    of the row's exponentials. -/
theorem kernel_at (c : Dev nD) (R : Fin 16384) (j : Fin 1024) :
    Value.G2 (F := Ideal) m c (ix2 R j)
    = kexp (row (embeddings m c) R) (row (centroids m c) j)
      * Ideal.div 1 (∑ l : Fin 1024, kexp (row (embeddings m c) R) (row (centroids m c) l)) := by
  have hN : cfg0.N = 8 := N_0
  have hR := R.isLt
  have hj := j.isLt
  have hp : Value.pt2Of (ix2 R j) = R.val / 2048 := by
    show 1 * (R.val / 2048 - 0) + 1 * (j.val / 1024 - 0) = _
    omega
  have hb : Value.pt2Of (ix2 R j) < cfg0.N := by rw [hp, hN]; omega
  have hl : Value.loc2Of (ix2 R j) = ix2 (⟨R.val % 2048, Nat.mod_lt _ (by decide)⟩ : Fin 2048) j := by
    funext a
    apply Fin.ext
    match a with
    | ⟨0, _⟩ => rfl
    | ⟨1, _⟩ => exact Nat.mod_eq_of_lt hj
  unfold Value.G2
  rw [dif_pos hb, ← Value.outsAt0_sweep m c _ hb, after_step, hl]
  show k0_pay2 (F := Ideal) _ (k0_pay1 (F := Ideal) (centroids m c)) _ = _
  rw [block_at, block_row m c ⟨_, hb⟩ _ R (by show R.val = 2048 * Value.pt2Of (ix2 R j) + R.val % 2048; rw [hp]; omega)]

/-- THE EQUATION: the kernel's array is the reference's softmax, element by element, over the extended reals. -/
theorem kernel_eq (c : Dev nD) :
    Value.G2 (F := Ideal) m c = refShare (refExp (refLogits (refRows (embeddings m c)) (refCentroids (centroids m c)))) := by
  funext i
  obtain ⟨R, j, rfl⟩ : ∃ (R : Fin 16384) (j : Fin 1024), i = ix2 R j :=
    ⟨i 0, i 1, funext fun a => match a with | ⟨0, _⟩ => rfl | ⟨1, _⟩ => rfl⟩
  rw [kernel_at, softmax_eq (N := 1023)]
  exact (ref_at (embeddings m c) (centroids m c) R j).symm

end Cluster

end
-- ==== Proof.Claims.lean ====
/-
  The five claims, each by name.
-/
module

public import proofs.«01_k».proof.Proof.Equation
public import proofs.«01_k».proof.Proof.Gen.Kernel.Frame
public import Idealize.ShloMosaic.Lib.Quiescent

@[expose] public section

noncomputable section

namespace Cluster

open Idealize.ShloMosaic Idealize.ShloMosaic.TcCoe Idealize.SL.Sem

/-- The kernel runs, from any memory, leaves its arguments as they were and every counter at zero. -/
theorem kernel_runs : Cert.quiescent_Kernel := fun m ρ _ => Cert.Kernel.Gen.frame m ρ

/-- So does its idealization. -/
theorem ideal_runs : Cert.quiescent_KernelIdeal := fun m ρ _ => Cert.KernelIdeal.Gen.frame m ρ

/-- So does the reference. -/
theorem reference_runs : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization names two of the kernel's constants and changes nothing else. -/
theorem constants_named : Cert.preserves_Kernel_KernelIdeal :=
  ⟨IdealRules.named_const.statement Cert.KernelIdeal.κ "floor_sq" .f32 0x179ABE15#32
      ((5316911940649 / 5316911983139663491615228241121378304 : ℝ) : EReal) rfl,
    IdealRules.named_const.statement Cert.KernelIdeal.κ "scale" .f32 0x4166D4CA#32
      ((10 * (Real.log 2)⁻¹ : ℝ) : EReal) rfl⟩

/-- From memories that agree on the arguments, the idealized kernel and the reference end with equal results. -/
theorem values_equal : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -⟩ := hagree c
  rw [kernel_eq m c, ref_term m' c, e0, e1]

end Cluster

end
-- ==== Proof.lean ====
/-
  The proof of `Cert.Claim`: the three programs run and leave their arguments as they were, the idealization of the kernel
  names two constants and changes nothing else, and the idealized kernel computes the reference's result. The mathematics
  is in Proof/Rows.lean, what a step computes in Proof/Block.lean, what the arrays hold in Proof/Carry.lean, what the
  reference computes in Proof/RefValue.lean, the equation in Proof/Equation.lean and the claims in Proof/Claims.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    Cluster.kernel_runs, Cluster.ideal_runs, Cluster.reference_runs, Cluster.constants_named, Cluster.values_equal⟩

end Cert.Proof

end
